-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_zero_offsets [hPre_finite_and_zero_offsets : Cert.Pre_finite_and_zero_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_and_zero_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_zero_offsets [hPre_finite_and_zero_offsets : Cert.Pre_finite_and_zero_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_and_zero_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_zero_offsets [hKernelIdeal : Cert.KernelIdeal.Facts] [hPre_finite_and_zero_offsets : Cert.Pre_finite_and_zero_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_zero_offsets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_zero_offsets [hReferenceIdeal : Cert.ReferenceIdeal.Facts] [hPre_finite_and_zero_offsets : Cert.Pre_finite_and_zero_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_zero_offsets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_zero_offsets [hKernelIdeal : Cert.KernelIdeal.Facts] [hReferenceIdeal : Cert.ReferenceIdeal.Facts] [hPre_finite_and_zero_offsets : Cert.Pre_finite_and_zero_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_zero_offsets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_zero_offsets : Cert.Pre_finite_and_zero_offsets.Facts),
    quiescent_Kernel (hKernel := hKernel)
    ∧ quiescent_KernelIdeal (hKernelIdeal := hKernelIdeal)
    ∧ quiescent_KernelIdeal_pre_finite_and_zero_offsets (hKernelIdeal := hKernelIdeal) (hPre_finite_and_zero_offsets := hPre_finite_and_zero_offsets)
    ∧ quiescent_ReferenceIdeal (hReferenceIdeal := hReferenceIdeal)
    ∧ quiescent_ReferenceIdeal_pre_finite_and_zero_offsets (hReferenceIdeal := hReferenceIdeal) (hPre_finite_and_zero_offsets := hPre_finite_and_zero_offsets)
    ∧ preserves_Kernel_KernelIdeal
    ∧ algebraic_KernelIdeal_ReferenceIdeal_pre_finite_and_zero_offsets (hKernelIdeal := hKernelIdeal) (hReferenceIdeal := hReferenceIdeal) (hPre_finite_and_zero_offsets := hPre_finite_and_zero_offsets)
-- ==== Pre_finite_and_zero_offsets.lean ====
abbrev S32x4096x6 : Shape := ⟨3, ![32, 4096, 6]⟩
abbrev S32x4096 : Shape := ⟨2, ![32, 4096]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S32x4096x1 : Shape := ⟨3, ![32, 4096, 1]⟩
abbrev S_ : Shape := ⟨0, ![]⟩

class Facts : Prop where
  bcast_S32x4096_S32x4096x1_0_1 : S32x4096.BroadcastsInDim S32x4096x1 (![0, 1] : Fin 2 → Fin S32x4096x1.rank)
  bcast_S_S32x4096x6 : S_.BroadcastsInDim S32x4096x6 (![] : Fin 0 → Fin S32x4096x6.rank)
  bcast_S32x4096x1_S32x4096x6_0_1_2 : S32x4096x1.BroadcastsInDim S32x4096x6 (![0, 1, 2] : Fin 3 → Fin S32x4096x6.rank)
  bcast_S_S6x128 : S_.BroadcastsInDim S6x128 (![] : Fin 0 → Fin S6x128.rank)
  bcast_S_S128 : S_.BroadcastsInDim S128 (![] : Fin 0 → Fin S128.rank)
  bcast_S_S128x256 : S_.BroadcastsInDim S128x256 (![] : Fin 0 → Fin S128x256.rank)
  bcast_S_S256 : S_.BroadcastsInDim S256 (![] : Fin 0 → Fin S256.rank)
  bcast_S_S512x256 : S_.BroadcastsInDim S512x256 (![] : Fin 0 → Fin S512x256.rank)

variable [Facts]

def fn_where {F : FTy → Type} [FloatOps F] (arg0 : IVec S32x4096x1 1) (arg1 : IVec S32x4096x6 1) (arg2 : IVec S_ 1) : IVec S32x4096x6 1 :=
  let v0 : IVec S32x4096x6 1 := broadcastInDim S32x4096x6 ![0, 1, 2] bcast_S32x4096x1_S32x4096x6_0_1_2 arg0
  let v1 : IVec S32x4096x6 1 := broadcastInDim S32x4096x6 ![] bcast_S_S32x4096x6 arg2
  let v2 : IVec S32x4096x6 1 := select v0 arg1 v1
  v2

def fn_part1 {F : FTy → Type} [FloatOps F] (main_arg7 : FVec F S256 .f32) (main_arg8 : FVec F S512x256 .f32) (main_arg10 : FVec F S256 .f32) (main_arg13 : FVec F S128 .f32) (main_v4 : IVec S32x4096x6 1) (main_v7 : IVec S6x128 1) (main_v10 : IVec S128 1) (main_v13 : IVec S128 1) (main_v16 : IVec S128 1) (main_v17 : FVec F S128x256 .f32) : IVec S32x4096x6 1 × IVec S6x128 1 × IVec S128 1 × IVec S128 1 × IVec S128 1 × IVec S128x256 1 × IVec S256 1 × IVec S512x256 1 × IVec S256 1 × IVec S128 1 :=
  let main_cst_4 : FVec F S_ .f32 := constant S_ .f32 0x7F800000#32
  let main_v18 : FVec F S128x256 .f32 := broadcastInDim S128x256 ![] bcast_S_S128x256 main_cst_4
  let main_v19 : IVec S128x256 1 := cmpf .olt main_v17 main_v18
  let main_cst_5 : FVec F S_ .f32 := constant S_ .f32 0x00000000#32
  let main_v20 : FVec F S256 .f32 := broadcastInDim S256 ![] bcast_S_S256 main_cst_5
  let main_v21 : IVec S256 1 := cmpf .oeq main_arg7 main_v20
  let main_v22 : FVec F S512x256 .f32 := Host.absf main_arg8
  let main_cst_6 : FVec F S_ .f32 := constant S_ .f32 0x7F800000#32
  let main_v23 : FVec F S512x256 .f32 := broadcastInDim S512x256 ![] bcast_S_S512x256 main_cst_6
  let main_v24 : IVec S512x256 1 := cmpf .olt main_v22 main_v23
  let main_v25 : FVec F S256 .f32 := Host.absf main_arg10
  let main_cst_7 : FVec F S_ .f32 := constant S_ .f32 0x7F800000#32
  let main_v26 : FVec F S256 .f32 := broadcastInDim S256 ![] bcast_S_S256 main_cst_7
  let main_v27 : IVec S256 1 := cmpf .olt main_v25 main_v26
  let main_cst_8 : FVec F S_ .f32 := constant S_ .f32 0x00000000#32
  let main_v28 : FVec F S128 .f32 := broadcastInDim S128 ![] bcast_S_S128 main_cst_8
  let main_v29 : IVec S128 1 := cmpf .oeq main_arg13 main_v28
  (main_v4, main_v7, main_v10, main_v13, main_v16, main_v19, main_v21, main_v24, main_v27, main_v29)

def fn {F : FTy → Type} [FloatOps F] (main_arg0 : FVec F S32x4096x6 .f32) (main_arg1 : IVec S32x4096 1) (main_arg2 : FVec F S6x128 .f32) (main_arg3 : FVec F S128 .f32) (main_arg4 : FVec F S128 .f32) (main_arg5 : FVec F S128 .f32) (main_arg6 : FVec F S128x256 .f32) (main_arg7 : FVec F S256 .f32) (main_arg8 : FVec F S512x256 .f32) (main_arg9 : FVec F S256 .f32) (main_arg10 : FVec F S256 .f32) (main_arg11 : FVec F S256 .f32) (main_arg12 : FVec F S256x128 .f32) (main_arg13 : FVec F S128 .f32) : IVec S32x4096x6 1 × IVec S6x128 1 × IVec S128 1 × IVec S128 1 × IVec S128 1 × IVec S128x256 1 × IVec S256 1 × IVec S512x256 1 × IVec S256 1 × IVec S128 1 :=
  let main_v0 : IVec S32x4096x1 1 := broadcastInDim S32x4096x1 ![0, 1] bcast_S32x4096_S32x4096x1_0_1 main_arg1
  let main_v1 : FVec F S32x4096x6 .f32 := Host.absf main_arg0
  let main_cst : FVec F S_ .f32 := constant S_ .f32 0x7F800000#32
  let main_v2 : FVec F S32x4096x6 .f32 := broadcastInDim S32x4096x6 ![] bcast_S_S32x4096x6 main_cst
  let main_v3 : IVec S32x4096x6 1 := cmpf .olt main_v1 main_v2
  let main_c : IVec S_ 1 := constantI S_ 1 1#1
  let main_v4 : IVec S32x4096x6 1 := fn_where (F := F) main_v0 main_v3 main_c
  let main_v5 : FVec F S6x128 .f32 := Host.absf main_arg2
  let main_cst_0 : FVec F S_ .f32 := constant S_ .f32 0x7F800000#32
  let main_v6 : FVec F S6x128 .f32 := broadcastInDim S6x128 ![] bcast_S_S6x128 main_cst_0
  let main_v7 : IVec S6x128 1 := cmpf .olt main_v5 main_v6
  let main_v8 : FVec F S128 .f32 := Host.absf main_arg3
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  let main_v11 : FVec F S128 .f32 := Host.absf main_arg4
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128 .f32 := Host.absf main_arg5
  let main_cst_3 : FVec F S_ .f32 := constant S_ .f32 0x7F800000#32
  let main_v15 : FVec F S128 .f32 := broadcastInDim S128 ![] bcast_S_S128 main_cst_3
  let main_v16 : IVec S128 1 := cmpf .olt main_v14 main_v15
  let main_v17 : FVec F S128x256 .f32 := Host.absf main_arg6
  fn_part1 (F := F) main_arg7 main_arg8 main_arg10 main_arg13 main_v4 main_v7 main_v10 main_v13 main_v16 main_v17
-- ==== Kernel.lean ====
abbrev S32x4096x6 : Shape := ⟨3, ![32, 4096, 6]⟩
abbrev S32x4096 : Shape := ⟨2, ![32, 4096]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S_ : Shape := ⟨0, ![]⟩
abbrev S1x128 : Shape := ⟨2, ![1, 128]⟩
abbrev S8x128 : Shape := ⟨2, ![8, 128]⟩
abbrev S128x8 : Shape := ⟨2, ![128, 8]⟩
abbrev S1x256 : Shape := ⟨2, ![1, 256]⟩
abbrev S256x256 : Shape := ⟨2, ![256, 256]⟩
abbrev S256x1 : Shape := ⟨2, ![256, 1]⟩
abbrev S6x32x4096 : Shape := ⟨3, ![6, 32, 4096]⟩
abbrev S6x131072 : Shape := ⟨2, ![6, 131072]⟩
abbrev S1x131072 : Shape := ⟨2, ![1, 131072]⟩
abbrev S2x128x16 : Shape := ⟨3, ![2, 128, 16]⟩
abbrev S6x65536 : Shape := ⟨2, ![6, 65536]⟩
abbrev S1x65536 : Shape := ⟨2, ![1, 65536]⟩
abbrev S1x128x16 : Shape := ⟨3, ![1, 128, 16]⟩
abbrev S8x65536 : Shape := ⟨2, ![8, 65536]⟩
abbrev S8x16384 : Shape := ⟨2, ![8, 16384]⟩
abbrev S128x16384 : Shape := ⟨2, ![128, 16384]⟩
abbrev S256x16384 : Shape := ⟨2, ![256, 16384]⟩
abbrev S256x4096 : Shape := ⟨2, ![256, 4096]⟩
abbrev S256x16 : Shape := ⟨2, ![256, 16]⟩
abbrev S1x4096 : Shape := ⟨2, ![1, 4096]⟩
abbrev S128x4096 : Shape := ⟨2, ![128, 4096]⟩
abbrev S128x1 : Shape := ⟨2, ![128, 1]⟩
abbrev S1x128x1 : Shape := ⟨3, ![1, 128, 1]⟩
abbrev S2x16x128 : Shape := ⟨3, ![2, 16, 128]⟩
abbrev S32x128 : Shape := ⟨2, ![32, 128]⟩

abbrev nBuf : Space → Nat
  | .hbm => 62
  | .vmem => 12
  | .smem => 0
  | _ => 0

abbrev bufTy : (tb : Table) → Fin (tcTables nBuf tb) → BufTy
  | .hbm, ⟨0, _⟩ => ⟨S32x4096x6, .f32⟩
  | .hbm, ⟨1, _⟩ => ⟨S32x4096, .i1⟩
  | .hbm, ⟨2, _⟩ => ⟨S6x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S6x128, .f32⟩
  | .hbm, ⟨21, _⟩ => ⟨S6x128, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S8x128, .f32⟩
  | .hbm, ⟨28, _⟩ => ⟨S128x8, .f32⟩
  | .hbm, ⟨29, _⟩ => ⟨S128x8, .bf16⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S1x256, .f32⟩
  | .hbm, ⟨36, _⟩ => ⟨S512x256, .f32⟩
  | .hbm, ⟨37, _⟩ => ⟨S512x256, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S256x256, .f32⟩
  | .hbm, ⟨42, _⟩ => ⟨S256x256, .f32⟩
  | .hbm, ⟨43, _⟩ => ⟨S256x256, .bf16⟩
  | .hbm, ⟨44, _⟩ => ⟨S256, .f32⟩
  | .hbm, ⟨45, _⟩ => ⟨S256, .f32⟩
  | .hbm, ⟨46, _⟩ => ⟨S256x256, .f32⟩
  | .hbm, ⟨47, _⟩ => ⟨S256, .f32⟩
  | .hbm, ⟨48, _⟩ => ⟨S256, .f32⟩
  | .hbm, ⟨49, _⟩ => ⟨S256x1, .f32⟩
  | .hbm, ⟨50, _⟩ => ⟨S256x128, .f32⟩
  | .hbm, ⟨51, _⟩ => ⟨S256x128, .bf16⟩
  | .hbm, ⟨52, _⟩ => ⟨S128x256, .f32⟩
  | .hbm, ⟨53, _⟩ => ⟨S128x256, .bf16⟩
  | .hbm, ⟨54, _⟩ => ⟨S6x32x4096, .f32⟩
  | .hbm, ⟨55, _⟩ => ⟨S6x131072, .f32⟩
  | .hbm, ⟨56, _⟩ => ⟨S6x131072, .bf16⟩
  | .hbm, ⟨57, _⟩ => ⟨S32x4096, .bf16⟩
  | .hbm, ⟨58, _⟩ => ⟨S1x131072, .bf16⟩
  | .hbm, ⟨59, _⟩ => ⟨S2x128x16, .f32⟩
  | .hbm, ⟨60, _⟩ => ⟨S2x16x128, .f32⟩
  | .hbm, ⟨61, _⟩ => ⟨S32x128, .f32⟩
  | .local _ .vmem, ⟨0, _⟩ => ⟨S6x65536, .bf16⟩
  | .local _ .vmem, ⟨1, _⟩ => ⟨S6x65536, .bf16⟩
  | .local _ .vmem, ⟨2, _⟩ => ⟨S1x65536, .bf16⟩
  | .local _ .vmem, ⟨3, _⟩ => ⟨S1x65536, .bf16⟩
  | .local _ .vmem, ⟨4, _⟩ => ⟨S128x8, .bf16⟩
  | .local _ .vmem, ⟨5, _⟩ => ⟨S256x128, .bf16⟩
  | .local _ .vmem, ⟨6, _⟩ => ⟨S256x256, .bf16⟩
  | .local _ .vmem, ⟨7, _⟩ => ⟨S256x256, .bf16⟩
  | .local _ .vmem, ⟨8, _⟩ => ⟨S256x1, .f32⟩
  | .local _ .vmem, ⟨9, _⟩ => ⟨S128x256, .bf16⟩
  | .local _ .vmem, ⟨10, _⟩ => ⟨S1x128x16, .f32⟩
  | .local _ .vmem, ⟨11, _⟩ => ⟨S1x128x16, .f32⟩
  | _, _ => ⟨S32x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x4096x6 : Shape := ⟨3, ![32, 4096, 6]⟩
abbrev S32x4096 : Shape := ⟨2, ![32, 4096]⟩
abbrev S6x128 : Shape := ⟨2, ![6, 128]⟩
abbrev S128 : Shape := ⟨1, ![128]⟩
abbrev S128x256 : Shape := ⟨2, ![128, 256]⟩
abbrev S256 : Shape := ⟨1, ![256]⟩
abbrev S512x256 : Shape := ⟨2, ![512, 256]⟩
abbrev S256x128 : Shape := ⟨2, ![256, 128]⟩
abbrev S32x4096x1 : Shape := ⟨3, ![32, 4096, 1]⟩
abbrev S32x4096x128 : Shape := ⟨3, ![32, 4096, 128]⟩
abbrev S1x1x128 : Shape := ⟨3, ![1, 1, 128]⟩
abbrev S_ : Shape := ⟨0, ![]⟩
abbrev S32x4096x256 : Shape := ⟨3, ![32, 4096, 256]⟩
abbrev S1x1x256 : Shape := ⟨3, ![1, 1, 256]⟩
abbrev S32x256 : Shape := ⟨2, ![32, 256]⟩
abbrev S32x1x256 : Shape := ⟨3, ![32, 1, 256]⟩
abbrev S32x4096x512 : Shape := ⟨3, ![32, 4096, 512]⟩
abbrev S32x128 : Shape := ⟨2, ![32, 128]⟩

abbrev nBuf : Space → Nat
  | .hbm => 82
  | .vmem => 0
  | .smem => 0
  | _ => 0

abbrev bufTy : (tb : Table) → Fin (tcTables nBuf tb) → BufTy
  | .hbm, ⟨0, _⟩ => ⟨S32x4096x6, .f32⟩
  | .hbm, ⟨1, _⟩ => ⟨S32x4096, .i1⟩
  | .hbm, ⟨2, _⟩ => ⟨S6x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S32x4096x1, .i1⟩
  | .hbm, ⟨15, _⟩ => ⟨S32x4096x128, .f32⟩
  | .hbm, ⟨16, _⟩ => ⟨S1x1x128, .f32⟩
  | .hbm, ⟨17, _⟩ => ⟨S32x4096x128, .f32⟩
  | .hbm, ⟨18, _⟩ => ⟨S32x4096x128, .f32⟩
  | .hbm, ⟨19, _⟩ => ⟨S_, .f32⟩
  | .hbm, ⟨20, _⟩ => ⟨S32x4096x128, .f32⟩
  | .hbm, ⟨21, _⟩ => ⟨S32x4096x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x4096x128, .f32⟩
  | .hbm, ⟨26, _⟩ => ⟨S32x4096x128, .f32⟩
  | .hbm, ⟨27, _⟩ => ⟨S1x1x128, .f32⟩
  | .hbm, ⟨28, _⟩ => ⟨S32x4096x128, .f32⟩
  | .hbm, ⟨29, _⟩ => ⟨S32x4096x128, .f32⟩
  | .hbm, ⟨30, _⟩ => ⟨S1x1x128, .f32⟩
  | .hbm, ⟨31, _⟩ => ⟨S32x4096x128, .f32⟩
  | .hbm, ⟨32, _⟩ => ⟨S32x4096x128, .f32⟩
  | .hbm, ⟨33, _⟩ => ⟨S_, .f32⟩
  | .hbm, ⟨34, _⟩ => ⟨S32x4096x128, .f32⟩
  | .hbm, ⟨35, _⟩ => ⟨S32x4096x128, .f32⟩
  | .hbm, ⟨36, _⟩ => ⟨S32x4096x256, .f32⟩
  | .hbm, ⟨37, _⟩ => ⟨S1x1x256, .f32⟩
  | .hbm, ⟨38, _⟩ => ⟨S32x4096x256, .f32⟩
  | .hbm, ⟨39, _⟩ => ⟨S32x4096x256, .f32⟩
  | .hbm, ⟨40, _⟩ => ⟨S_, .f32⟩
  | .hbm, ⟨41, _⟩ => ⟨S_, .f32⟩
  | .hbm, ⟨42, _⟩ => ⟨S32x4096x256, .i1⟩
  | .hbm, ⟨43, _⟩ => ⟨S32x4096x256, .f32⟩
  | .hbm, ⟨44, _⟩ => ⟨S32x4096x256, .f32⟩
  | .hbm, ⟨45, _⟩ => ⟨S_, .f32⟩
  | .hbm, ⟨46, _⟩ => ⟨S32x256, .f32⟩
  | .hbm, ⟨47, _⟩ => ⟨S32x1x256, .f32⟩
  | .hbm, ⟨48, _⟩ => ⟨S32x4096x256, .f32⟩
  | .hbm, ⟨49, _⟩ => ⟨S32x4096x512, .f32⟩
  | .hbm, ⟨50, _⟩ => ⟨S32x4096x256, .f32⟩
  | .hbm, ⟨51, _⟩ => ⟨S1x1x256, .f32⟩
  | .hbm, ⟨52, _⟩ => ⟨S32x4096x256, .f32⟩
  | .hbm, ⟨53, _⟩ => ⟨S32x4096x256, .f32⟩
  | .hbm, ⟨54, _⟩ => ⟨S_, .f32⟩
  | .hbm, ⟨55, _⟩ => ⟨S32x4096x256, .f32⟩
  | .hbm, ⟨56, _⟩ => ⟨S32x4096x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S32x4096x256, .f32⟩
  | .hbm, ⟨61, _⟩ => ⟨S32x4096x256, .f32⟩
  | .hbm, ⟨62, _⟩ => ⟨S1x1x256, .f32⟩
  | .hbm, ⟨63, _⟩ => ⟨S32x4096x256, .f32⟩
  | .hbm, ⟨64, _⟩ => ⟨S32x4096x256, .f32⟩
  | .hbm, ⟨65, _⟩ => ⟨S1x1x256, .f32⟩
  | .hbm, ⟨66, _⟩ => ⟨S32x4096x256, .f32⟩
  | .hbm, ⟨67, _⟩ => ⟨S32x4096x256, .f32⟩
  | .hbm, ⟨68, _⟩ => ⟨S_, .f32⟩
  | .hbm, ⟨69, _⟩ => ⟨S32x4096x256, .f32⟩
  | .hbm, ⟨70, _⟩ => ⟨S32x4096x256, .f32⟩
  | .hbm, ⟨71, _⟩ => ⟨S32x4096x128, .f32⟩
  | .hbm, ⟨72, _⟩ => ⟨S1x1x128, .f32⟩
  | .hbm, ⟨73, _⟩ => ⟨S32x4096x128, .f32⟩
  | .hbm, ⟨74, _⟩ => ⟨S32x4096x128, .f32⟩
  | .hbm, ⟨75, _⟩ => ⟨S_, .f32⟩
  | .hbm, ⟨76, _⟩ => ⟨S_, .f32⟩
  | .hbm, ⟨77, _⟩ => ⟨S32x4096x128, .i1⟩
  | .hbm, ⟨78, _⟩ => ⟨S32x4096x128, .f32⟩
  | .hbm, ⟨79, _⟩ => ⟨S32x4096x128, .f32⟩
  | .hbm, ⟨80, _⟩ => ⟨S_, .f32⟩
  | .hbm, ⟨81, _⟩ => ⟨S32x128, .f32⟩
  | _, _ => ⟨S32x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_cst : Ref sig .tc := ⟨.hbm, 68, rfl⟩
abbrev main_call2_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== Proof.Equation.lean ====
/-
  The mathematics of the encoder on the extended reals, with no program in it.

  One sample is `xs : Fin 4096 → Fin 6 → EReal` (its points) and `mk : Fin 4096 → Prop` (which points are valid). Two ways to
  compute its 128 results are written down: the `Ref` functions, which normalise after each of the first and third layers and
  put zero at the points masked out by a choice, and the `Ker` functions, which multiply the normalisation's scale into the
  weights beforehand, carry the biases as further weights, and multiply by a mask of zeros and ones. `ker_eq_ref` says that
  the results agree where the numbers before the last layer are finite and the offsets `b2` and `b4` are zero.
-/
module

public import Idealize.ShloMosaic.PureOps.Ideal
public import Idealize.ShloMosaic.PureOps.Ideal.Laws

@[expose] public section

noncomputable section

namespace Cert.Encoder

open Idealize.ShloMosaic

/-- The largest of finitely many extended reals, ⊥ when there is none. -/
def largest {n : ℕ} (f : Fin n → EReal) : EReal := Finset.univ.fold max ⊥ f

/-- The weights, all but the first layer's input: one entry per argument of the program, and `c`, the number that the
    normalisations divide by. -/
structure Weights where
  W1 : Fin 6 → Fin 128 → EReal
  b1 : Fin 128 → EReal
  g1 : Fin 128 → EReal
  be1 : Fin 128 → EReal
  W2 : Fin 128 → Fin 256 → EReal
  b2 : Fin 256 → EReal
  W3 : Fin 512 → Fin 256 → EReal
  b3 : Fin 256 → EReal
  g2 : Fin 256 → EReal
  be2 : Fin 256 → EReal
  W4 : Fin 256 → Fin 128 → EReal
  b4 : Fin 128 → EReal
  c : EReal

variable (w : Weights) (xs : Fin 4096 → Fin 6 → EReal) (mk : Fin 4096 → Prop) [DecidablePred mk]

/-- Row `k` of the half of `W3` that meets the point's own features. -/
abbrev lo (k : Fin 256) : Fin 512 := ⟨k.val, by omega⟩
/-- Row `k` of the half of `W3` that meets the pooled features. -/
abbrev hi (k : Fin 256) : Fin 512 := ⟨256 + k.val, by omega⟩

/-! ## The two computations -/

/-- Hidden unit `k` of point `l`: linear layer, normalisation, positive part. -/
def refH (l : Fin 4096) (k : Fin 128) : EReal :=
  max (Ideal.div (((∑ r, xs l r * w.W1 r k) + w.b1 k) - 0) w.c * w.g1 k + w.be1 k) 0
/-- Feature `o` of point `l`, zero at a point masked out. -/
def refG (l : Fin 4096) (o : Fin 256) : EReal :=
  if mk l then (∑ k, refH w xs l k * w.W2 k o) + w.b2 o else 0
/-- Feature `o` pooled over the sample. -/
def refP (o : Fin 256) : EReal := largest fun l => refG w xs mk l o
/-- Unit `o` of the third layer at point `l`: linear in own and pooled features, normalisation, positive part. -/
def refZ (l : Fin 4096) (o : Fin 256) : EReal :=
  max (Ideal.div (((∑ k, refG w xs mk l k * w.W3 (lo k) o + ∑ k, refP w xs mk k * w.W3 (hi k) o) + w.b3 o) - 0) w.c
    * w.g2 o + w.be2 o) 0
/-- Result `e` of the sample. -/
def refOut (e : Fin 128) : EReal :=
  largest fun l => if mk l then (∑ o, refZ w xs mk l o * w.W4 o e) + w.b4 e else 0

/-- The mask as a number. -/
def bit (l : Fin 4096) : EReal := if mk l then 1 else 0
/-- The first normalisation's scale. -/
def s1 (k : Fin 128) : EReal := Ideal.div (w.g1 k) w.c
/-- The second normalisation's scale. -/
def s2 (o : Fin 256) : EReal := Ideal.div (w.g2 o) w.c

/-- Hidden unit `k` of point `l`, the scale in the weights and the bias as a weight of the mask. -/
def kerH (l : Fin 4096) (k : Fin 128) : EReal :=
  max ((∑ r, w.W1 r k * s1 w k * (xs l r * bit mk l)) + ((w.b1 k * s1 w k + w.be1 k) * bit mk l + 0 * bit mk l)) 0
/-- Feature `o` of point `l`. -/
def kerG (l : Fin 4096) (o : Fin 256) : EReal := ∑ k, w.W2 k o * kerH w xs mk l k
/-- Feature `o` pooled over the sample. -/
def kerP (o : Fin 256) : EReal := largest fun l => kerG w xs mk l o
/-- What the pooled features and the biases add to unit `o` of the third layer. -/
def kerC (o : Fin 256) : EReal :=
  (∑ k, w.W3 (hi k) o * s2 w o * kerP w xs mk k)
    + ((w.b3 o * s2 w o + w.be2 o) + ∑ k, w.b2 k * (w.W3 (lo k) o * s2 w o))
/-- Unit `o` of the third layer at point `l`, times the mask. -/
def kerZ (l : Fin 4096) (o : Fin 256) : EReal :=
  max ((∑ k, w.W3 (lo k) o * s2 w o * kerG w xs mk l k) + kerC w xs mk o) 0 * bit mk l
/-- Result `e` of the sample. -/
def kerOut (e : Fin 128) : EReal := largest fun l => ∑ o, w.W4 o e * kerZ w xs mk l o

/-! ## Finite numbers -/

/-- `a` is a real number. -/
def IsReal (a : EReal) : Prop := ∃ r : ℝ, a = r

/-- A finite sum of real numbers, summed as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

theorem IsReal.mul {a b : EReal} : IsReal a → IsReal b → IsReal (a * b)
  | ⟨r, hr⟩, ⟨s, hs⟩ => ⟨r * s, by rw [hr, hs, EReal.coe_mul]⟩

theorem IsReal.add {a b : EReal} : IsReal a → IsReal b → IsReal (a + b)
  | ⟨r, hr⟩, ⟨s, hs⟩ => ⟨r + s, by rw [hr, hs, EReal.coe_add]⟩

theorem IsReal.zero : IsReal 0 := ⟨0, rfl⟩
theorem IsReal.one : IsReal 1 := ⟨1, rfl⟩

theorem IsReal.max {a b : EReal} : IsReal a → IsReal b → IsReal (max a b) := fun ha hb => by
  rcases max_choice a b with h | h <;> rw [h] <;> assumption

/-- What is neither infinity is a real number. -/
theorem IsReal.of_ne {a : EReal} (h₁ : a ≠ ⊥) (h₂ : a ≠ ⊤) : IsReal a := ⟨a.toReal, (EReal.coe_toReal h₂ h₁).symm⟩

/-- The largest of 4096 real numbers is one. -/
theorem IsReal.largest {f : Fin 4096 → EReal} (h : ∀ l, IsReal (f l)) : IsReal (largest f) := by
  refine IsReal.of_ne (ne_of_gt ?_) (ne_of_lt ?_)
  · refine (Finset.lt_fold_max _).2 (.inr ⟨0, Finset.mem_univ _, ?_⟩)
    obtain ⟨r, hr⟩ := h 0
    rw [hr]; exact EReal.bot_lt_coe r
  · refine (Finset.fold_max_lt _).2 ⟨bot_lt_top, fun l _ => ?_⟩
    obtain ⟨r, hr⟩ := h l
    rw [hr]; exact EReal.coe_lt_top r

/-- A real factor distributes over a real number plus any extended real. -/
theorem add_mul_real (y σ : ℝ) (b : EReal) : ((y : EReal) + b) * σ = (y : EReal) * σ + b * σ := by
  induction b with
  | coe b => rw [← EReal.coe_add, ← EReal.coe_mul, ← EReal.coe_mul, ← EReal.coe_mul, ← EReal.coe_add, add_mul]
  | top =>
    rw [EReal.coe_add_top]
    rcases lt_trichotomy σ 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy σ 0 with h | h | h
    · rw [EReal.bot_mul_coe_of_neg h, ← EReal.coe_mul, EReal.coe_add_top]
    · subst h; simp
    · rw [EReal.bot_mul_coe_of_pos h, ← EReal.coe_mul, EReal.add_bot]

/-! ## The equation -/

/-- What is asked: the valid points and the weights before the last layer are finite, `b2` and `b4` are zero, and the
    normalisations divide by a number that is not zero. -/
structure Good : Prop where
  xs : ∀ l, mk l → ∀ r, IsReal (xs l r)
  W1 : ∀ r k, IsReal (w.W1 r k)
  b1 : ∀ k, IsReal (w.b1 k)
  g1 : ∀ k, IsReal (w.g1 k)
  be1 : ∀ k, IsReal (w.be1 k)
  W2 : ∀ k o, IsReal (w.W2 k o)
  b2 : ∀ o, w.b2 o = 0
  W3 : ∀ k o, IsReal (w.W3 k o)
  g2 : ∀ o, IsReal (w.g2 o)
  b4 : ∀ e, w.b4 e = 0
  c : ∃ r : ℝ, r ≠ 0 ∧ w.c = r

variable {w xs mk}

/-- The scales are real. -/
theorem Good.scale (h : Good w xs mk) {g : EReal} (hg : IsReal g) : IsReal (Ideal.div g w.c) := by
  obtain ⟨r, hr, hc⟩ := h.c
  rw [hc, Ideal.div_coe hr]
  exact hg.mul ⟨_, rfl⟩

/-- Dividing and then scaling is multiplying by the scale. -/
theorem Good.div_mul (h : Good w xs mk) (x g : EReal) : Ideal.div x w.c * g = x * Ideal.div g w.c := by
  obtain ⟨r, hr, hc⟩ := h.c
  rw [hc, Ideal.div_coe hr, Ideal.div_coe hr, mul_assoc, mul_comm ((1 / r : ℝ) : EReal) g]

/-- The hidden units agree at a valid point, and are real. -/
theorem Good.hidden (h : Good w xs mk) {l : Fin 4096} (hl : mk l) (k : Fin 128) :
    kerH w xs mk l k = refH w xs l k ∧ IsReal (refH w xs l k) := by
  have hs : IsReal (s1 w k) := h.scale (h.g1 k)
  unfold kerH refH bit
  rw [if_pos hl, h.div_mul, show Ideal.div (w.g1 k) w.c = s1 w k from rfl]
  obtain ⟨s, hs⟩ := hs
  choose x hx using h.xs l hl
  choose a ha using fun r => h.W1 r k
  obtain ⟨b, hb⟩ := h.b1 k
  obtain ⟨d, hd⟩ := h.be1 k
  simp only [hs, hx, ha, hb, hd, mul_one, zero_mul, add_zero, sub_zero]
  have e₁ : ((∑ r, (a r : EReal) * s * (x r : EReal)) + ((b : EReal) * s + d))
      = (((∑ r, x r * a r) + b) * s + d : ℝ) := by
    have : (∑ r, (a r : EReal) * s * (x r : EReal)) = ((∑ r, a r * s * x r : ℝ) : EReal) := by
      rw [coe_sum]; simp only [EReal.coe_mul]
    rw [this, ← EReal.coe_mul, ← EReal.coe_add, ← EReal.coe_add, EReal.coe_eq_coe_iff, add_mul, Finset.sum_mul, add_assoc]
    exact congrArg (· + (b * s + d)) (Finset.sum_congr rfl fun r _ => by ring)
  have e₂ : ((∑ r, (x r : EReal) * (a r : EReal)) + (b : EReal)) * s + d = (((∑ r, x r * a r) + b) * s + d : ℝ) := by
    have : (∑ r, (x r : EReal) * (a r : EReal)) = ((∑ r, x r * a r : ℝ) : EReal) := by
      rw [coe_sum]; simp only [EReal.coe_mul]
    rw [this, ← EReal.coe_add, ← EReal.coe_mul, ← EReal.coe_add]
  rw [e₁, e₂]
  exact ⟨rfl, IsReal.max ⟨_, rfl⟩ IsReal.zero⟩

/-- The features agree at every point, and are real. -/
theorem Good.feature (h : Good w xs mk) (l : Fin 4096) (o : Fin 256) :
    kerG w xs mk l o = refG w xs mk l o ∧ IsReal (refG w xs mk l o) := by
  unfold kerG refG
  by_cases hl : mk l
  · rw [if_pos hl, h.b2, add_zero]
    refine ⟨Finset.sum_congr rfl fun k _ => ?_, IsReal.sum fun k => (h.hidden hl k).2.mul (h.W2 k o)⟩
    rw [(h.hidden hl k).1, mul_comm]
  · rw [if_neg hl]
    refine ⟨Finset.sum_eq_zero fun k _ => ?_, IsReal.zero⟩
    unfold kerH bit
    simp only [if_neg hl, mul_zero, Finset.sum_const_zero, add_zero, max_self]

/-- The pooled features agree, and are real. -/
theorem Good.pooled (h : Good w xs mk) (o : Fin 256) :
    kerP w xs mk o = refP w xs mk o ∧ IsReal (refP w xs mk o) :=
  ⟨congrArg largest (funext fun l => (h.feature l o).1), IsReal.largest fun l => (h.feature l o).2⟩

/-- The third layer's units agree at a valid point. -/
theorem Good.third (h : Good w xs mk) {l : Fin 4096} (hl : mk l) (o : Fin 256) :
    kerZ w xs mk l o = refZ w xs mk l o := by
  obtain ⟨s, hs⟩ : IsReal (s2 w o) := h.scale (h.g2 o)
  unfold kerZ refZ kerC bit
  rw [if_pos hl, mul_one, h.div_mul, show Ideal.div (w.g2 o) w.c = s2 w o from rfl]
  simp only [h.b2, zero_mul, Finset.sum_const_zero, add_zero, sub_zero, (h.feature _ _).1, (h.pooled _).1, hs]
  choose G hG using fun k => (h.feature l k).2
  choose P hP using fun k => (h.pooled k).2
  choose A hA using fun k => h.W3 (lo k) o
  choose B hB using fun k => h.W3 (hi k) o
  simp only [hG, hP, hA, hB]
  have e : ∀ (u v : Fin 256 → ℝ), (∑ k, (u k : EReal) * s * (v k : EReal)) = ((∑ k, v k * u k : ℝ) : EReal) * s := by
    intro u v
    rw [← EReal.coe_mul, Finset.sum_mul, coe_sum]
    refine Finset.sum_congr rfl fun k _ => ?_
    rw [← EReal.coe_mul, ← EReal.coe_mul]; congr 1; ring
  have e' : ∀ (u v : Fin 256 → ℝ), (∑ k, (v k : EReal) * (u k : EReal)) = ((∑ k, v k * u k : ℝ) : EReal) := by
    intro u v
    rw [coe_sum]; simp only [EReal.coe_mul]
  rw [e, e, e', e', ← EReal.coe_add, add_mul_real, EReal.coe_add, add_mul_real]
  simp only [add_assoc]

/-- THE EQUATION: the two computations give the same results. -/
theorem Good.ker_eq_ref (h : Good w xs mk) (e : Fin 128) : kerOut w xs mk e = refOut w xs mk e := by
  refine congrArg largest (funext fun l => ?_)
  by_cases hl : mk l
  · rw [if_pos hl, h.b4, add_zero]
    exact Finset.sum_congr rfl fun o _ => by rw [h.third hl, mul_comm]
  · rw [if_neg hl]
    refine Finset.sum_eq_zero fun o _ => ?_
    unfold kerZ bit
    rw [if_neg hl, mul_zero, mul_zero]

end Cert.Encoder

end
-- ==== Proof.Block.lean ====
/-
  One block of the kernel, up to the third layer. The block shows sixteen samples of 4096 points, a point to a lane, and the
  body works on four chunks of four samples. Here: the features at every lane of every chunk, and what the pooled features and
  the biases add to a unit of the third layer, for every sample of the block.
-/
module

public import proofs.«01_k».proof.Proof.Gen.KernelIdeal.Frame
public import proofs.«01_k».proof.Proof.Equation
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Encoder (largest)

variable (x0 : FVec Ideal S6x65536 .bf16) (x1 : FVec Ideal S1x65536 .bf16) (x2 : FVec Ideal S128x8 .bf16)
  (x3 : FVec Ideal S256x128 .bf16) (x4 : FVec Ideal S256x256 .bf16) (x5 : FVec Ideal S256x256 .bf16)
  (x6 : FVec Ideal S256x1 .f32) (x7 : FVec Ideal S128x256 .bf16)

/-- Lane `l` of sample `i` of the block. -/
abbrev lane (i : Fin 16) (l : Fin 4096) : Fin 65536 := ⟨4096 * i.val + l.val, by omega⟩

/-- Hidden unit `k` at lane `q`. -/
def hid (k : Fin 128) (q : Fin 65536) : EReal :=
  max ((∑ r : Fin 6, x2 (ix2 k ⟨r.val, by omega⟩) * (x0 (ix2 r q) * x1 (ix2 0 q)))
    + (x2 (ix2 k 6) * x1 (ix2 0 q) + x2 (ix2 k 7) * x1 (ix2 0 q))) 0
/-- Feature `o` at lane `q`. -/
def feat (o : Fin 256) (q : Fin 65536) : EReal := ∑ k, x3 (ix2 o k) * hid x0 x1 x2 k q

/-- A sum over eight rows, the last two apart. -/
theorem sum_eight (f : Fin 8 → EReal) : ∑ r, f r = (∑ r : Fin 6, f ⟨r.val, by omega⟩) + (f 6 + f 7) := by
  rw [Fin.sum_univ_castSucc, Fin.sum_univ_castSucc, add_assoc]; rfl

/-- The four chunks' feature arrays hold `feat` at the chunks' lanes. -/
theorem chunks (o : Fin 256) (q : Fin 16384) :
    k0_pay60 (F := Ideal) x0 x1 x2 x3 x4 x5 x6 x7 (ix2 o q) = feat x0 x1 x2 x3 o ⟨q.val, by omega⟩
    ∧ k0_pay67 (F := Ideal) x0 x1 x2 x3 x4 x5 x6 x7 (ix2 o q) = feat x0 x1 x2 x3 o ⟨16384 + q.val, by omega⟩
    ∧ k0_pay72 (F := Ideal) x0 x1 x2 x3 x4 x5 x6 x7 (ix2 o q) = feat x0 x1 x2 x3 o ⟨32768 + q.val, by omega⟩
    ∧ k0_pay79 (F := Ideal) x0 x1 x2 x3 x4 x5 x6 x7 (ix2 o q) = feat x0 x1 x2 x3 o ⟨49152 + q.val, by omega⟩ := by
  refine ⟨?_, ?_, ?_, ?_⟩
  all_goals
    unfold_payloads
    pointwise [feat, hid]
    refine Finset.sum_congr rfl fun k _ => ?_
    rw [sum_eight]
    rfl

/-- What the pooled features and the biases of sample `i` add to unit `o` of the third layer. -/
def shift (o : Fin 256) (i : Fin 16) : EReal :=
  (∑ k, x5 (ix2 o k) * largest fun l => feat x0 x1 x2 x3 k (lane i l)) + x6 (ix2 o 0)

/-- The sixteen-bit literal that a maximum starts from is −∞. -/
theorem bot_bf16 : Ideal.ofBits .bf16 0xFF80#16 = ⊥ := by
  simp [Ideal.ofBits, Ideal.ieee]

/-- The thirty-two-bit literal that a maximum starts from is −∞. -/
theorem bot_f32 : Ideal.ofBits .f32 0xFF800000#32 = ⊥ := by
  simp [Ideal.ofBits, Ideal.ieee]

/-- The array of all samples' shifts. -/
theorem shifts (o : Fin 256) (i : Fin 16) :
    k0_pay80 (F := Ideal) x0 x1 x2 x3 x4 x5 x6 x7 (ix2 o i) = shift x0 x1 x2 x3 x5 x6 o i := by
  have h0 := fun o q => (chunks x0 x1 x2 x3 x4 x5 x6 x7 o q).1
  have h1 := fun o q => (chunks x0 x1 x2 x3 x4 x5 x6 x7 o q).2.1
  have h2 := fun o q => (chunks x0 x1 x2 x3 x4 x5 x6 x7 o q).2.2.1
  have h3 := fun o q => (chunks x0 x1 x2 x3 x4 x5 x6 x7 o q).2.2.2
  unfold k0_pay60 at h0
  unfold k0_pay67 at h1
  unfold k0_pay72 at h2
  unfold k0_pay79 at h3
  pointwise [k0_pay80, k0_pay26, k0_pay61, k0_pay62, k0_pay63, k0_pay64, k0_pay68, k0_pay69, k0_pay70, k0_pay71,
    k0_pay73, k0_pay74, k0_pay75, k0_pay76, k0_pay8, k0_pay9, k0_pay10, k0_pay11, k0_pay14, k0_pay15, k0_pay16, k0_pay17,
    k0_pay19, k0_pay20, k0_pay21, k0_pay22, shift, largest, bot_bf16]
  refine Ideal.add_congr (Finset.sum_congr rfl fun k _ => Ideal.mul_congr rfl ?_) rfl
  fin_vals i with hi
  all_goals simp only [hi, Nat.reduceSub, Nat.reduceLT, ↓reduceDIte]
  all_goals
    simp only [h0, h1, h2, h3]
    refine congrArg (fun f => Finset.univ.fold max ⊥ f) (funext fun l => congrArg (feat x0 x1 x2 x3 k) (Fin.ext ?_))
    dsimp only; omega

/-- Unit `o` of the third layer at lane `l` of sample `i`, times the mask. -/
def third (o : Fin 256) (i : Fin 16) (l : Fin 4096) : EReal :=
  max ((∑ k, x4 (ix2 o k) * feat x0 x1 x2 x3 k (lane i l)) + shift x0 x1 x2 x3 x5 x6 o i) 0 * x1 (ix2 0 (lane i l))

end Cert.KernelIdeal.Block
-- ==== Proof.Cells.lean ====
/-
  One block of the kernel, the last layer: what the body takes the maximum of, at every lane of every sample. The four chunks'
  arrays are one statement, `Holds`, at four places.
-/
module

public import proofs.«01_k».proof.Proof.Block
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Encoder (largest)

variable (x0 : FVec Ideal S6x65536 .bf16) (x1 : FVec Ideal S1x65536 .bf16) (x2 : FVec Ideal S128x8 .bf16)
  (x3 : FVec Ideal S256x128 .bf16) (x4 : FVec Ideal S256x256 .bf16) (x5 : FVec Ideal S256x256 .bf16)
  (x6 : FVec Ideal S256x1 .f32) (x7 : FVec Ideal S128x256 .bf16)

/-- Result `e` before the maximum, at lane `l` of sample `i`. -/
def cell (e : Fin 128) (i : Fin 16) (l : Fin 4096) : EReal :=
  ∑ o, x7 (ix2 e o) * third x0 x1 x2 x3 x4 x5 x6 o i l

/-- A chunk's array holds the cells of the samples `n` to `n + 3`. -/
def Holds (a : FVec Ideal S128x16384 .f32) (n : ℕ) (hn : n + 3 < 16) : Prop :=
  ∀ (e : Fin 128) (l : Fin 4096),
    a (ix2 e ⟨l.val, by omega⟩) = cell x0 x1 x2 x3 x4 x5 x6 x7 e ⟨n, by omega⟩ l
    ∧ a (ix2 e ⟨4096 + l.val, by omega⟩) = cell x0 x1 x2 x3 x4 x5 x6 x7 e ⟨n + 1, by omega⟩ l
    ∧ a (ix2 e ⟨8192 + l.val, by omega⟩) = cell x0 x1 x2 x3 x4 x5 x6 x7 e ⟨n + 2, by omega⟩ l
    ∧ a (ix2 e ⟨12288 + l.val, by omega⟩) = cell x0 x1 x2 x3 x4 x5 x6 x7 e ⟨n + 3, by omega⟩ l

/-- A cell written with any two names of its lane. -/
theorem cell_eq (o : Fin 256) (i : Fin 16) (l : Fin 4096) (p : Fin 256 → Fin 65536) (q : Fin 65536) (j : Fin 16)
    (hp : ∀ k, (p k).val = 4096 * i.val + l.val) (hq : q.val = 4096 * i.val + l.val) (hj : j.val = i.val) :
    max ((∑ k, x4 (ix2 o k) * feat x0 x1 x2 x3 k (p k)) + shift x0 x1 x2 x3 x5 x6 o j) 0 * x1 (ix2 0 q)
      = third x0 x1 x2 x3 x4 x5 x6 o i l := by
  obtain rfl : j = i := Fin.ext hj
  obtain rfl : q = lane j l := Fin.ext hq
  obtain rfl : p = fun _ => lane j l := funext fun k => Fin.ext (hp k)
  rfl

/-- The four chunks' arrays of cells. -/
theorem cells :
    Holds x0 x1 x2 x3 x4 x5 x6 x7 (k0_pay84 x0 x1 x2 x3 x4 x5 x6 x7) 0 (by omega)
    ∧ Holds x0 x1 x2 x3 x4 x5 x6 x7 (k0_pay40 (k0_pay58 x0 x1 x2 x3 x4 x5 x6 x7) (k0_pay80 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay88 x0 x1 x2 x3 x4 x5 x6 x7) (View.ld x7 r0_6)) 4 (by omega)
    ∧ Holds x0 x1 x2 x3 x4 x5 x6 x7 (k0_pay50 (k0_pay58 x0 x1 x2 x3 x4 x5 x6 x7) (k0_pay89 x0 x1 x2 x3 x4 x5 x6 x7) (k0_pay90 x0 x1 x2 x3 x4 x5 x6 x7) (k0_pay91 x0 x1 x2 x3 x4 x5 x6 x7) (k0_pay92 x0 x1 x2 x3 x4 x5 x6 x7) (View.ld x7 r0_6)) 8 (by omega)
    ∧ Holds x0 x1 x2 x3 x4 x5 x6 x7 (k0_pay94 x0 x1 x2 x3 x4 x5 x6 x7) 12 (by omega) := by
  have hc := chunks x0 x1 x2 x3 x4 x5 x6 x7
  have hs := shifts x0 x1 x2 x3 x4 x5 x6 x7
  have hs' := hs
  unfold k0_pay80 at hs'
  refine ⟨fun e l => ?_, fun e l => ?_, fun e l => ?_, fun e l => ?_⟩
  all_goals
    refine ⟨?_, ?_, ?_, ?_⟩
    all_goals
      pointwise [k0_pay94, k0_pay93, k0_pay92, k0_pay91, k0_pay90, k0_pay89, k0_pay88, k0_pay87, k0_pay86, k0_pay85,
        k0_pay84, k0_pay83, k0_pay82, k0_pay81, k0_pay58, k0_pay56, k0_pay55, k0_pay50, k0_pay49, k0_pay48, k0_pay47,
        k0_pay46, k0_pay45, k0_pay40, k0_pay39, k0_pay38, k0_pay37, k0_pay36, k0_pay30, k0_pay29, k0_pay28, k0_pay27,
        k0_pay5, cell]
      refine Finset.sum_congr rfl fun o _ => Ideal.mul_congr rfl ?_
      try simp (disch := omega) only [dif_neg, dif_pos]
      simp only [hs, hs', hc]
      refine cell_eq x0 x1 x2 x3 x4 x5 x6 o _ l _ _ _ (fun k => ?_) ?_ ?_
      · dsimp only; omega
      · dsimp only; omega
      · rfl

end Cert.KernelIdeal.Block
-- ==== Proof.Result.lean ====
/-
  One block of the kernel, what it leaves: column `i` of the result's block is sample `i`'s maximum over its 4096 lanes. The
  body writes the sixteen columns one by one.
-/
module

public import proofs.«01_k».proof.Proof.Cells
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Encoder (largest)

variable (x0 : FVec Ideal S6x65536 .bf16) (x1 : FVec Ideal S1x65536 .bf16) (x2 : FVec Ideal S128x8 .bf16)
  (x3 : FVec Ideal S256x128 .bf16) (x4 : FVec Ideal S256x256 .bf16) (x5 : FVec Ideal S256x256 .bf16)
  (x6 : FVec Ideal S256x1 .f32) (x7 : FVec Ideal S128x256 .bf16)

/-- A column of one result is told by its row. -/
theorem col_eq (x : S1x128x1.Idx) (e : Fin 128) (h : e.val = (x 1).val) : x = ix3 0 e 0 := by
  idx_vars x
  obtain rfl : e = x1 := Fin.ext h
  rw [Subsingleton.elim x0 0, Subsingleton.elim x2 0]

/-- What the body leaves in the result's block. -/
theorem out_at (e : Fin 128) (i : Fin 16) :
    out0_8 (F := Ideal) x0 x1 x2 x3 x4 x5 x6 x7 (ix3 0 e i) = largest (cell x0 x1 x2 x3 x4 x5 x6 x7 e i) := by
  obtain ⟨c0, c1, c2, c3⟩ := cells x0 x1 x2 x3 x4 x5 x6 x7
  have c0' := c0
  have c3' := c3
  unfold k0_pay84 at c0'
  unfold k0_pay94 at c3'
  unfold Holds at c0 c0' c1 c2 c3 c3'
  unfold out0_8
  canon_tiles x h
  all_goals
    obtain rfl := col_eq x e h1
    have hi := h2
    clear h0 h1 h2 x0_lt x1_lt x2_lt
    pointwise [k0_pay4, k0_pay3, k0_pay2, k0_pay1, k0_pay57, k0_pay54, k0_pay53, k0_pay52, k0_pay51, k0_pay44, k0_pay43,
      k0_pay42, k0_pay41, k0_pay35, k0_pay34, k0_pay33, k0_pay32, k0_pay31, largest, bot_f32]
    refine congrArg (fun f => Finset.univ.fold max ⊥ f) (funext fun l => ?_)
    simp only [c0, c0', c1, c2, c3, c3']
    exact congrArg (fun i => cell x0 x1 x2 x3 x4 x5 x6 x7 e i l) (Fin.ext hi.symm)

end Cert.KernelIdeal.Block
-- ==== Proof.Sample.lean ====
/-
  From a block to a sample: where the block's arrays hold a sample's points, its mask and the weights with the scales
  multiplied in, a column of the result is the formula `kerOut` of that sample.
-/
module

public import proofs.«01_k».proof.Proof.Cells

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Encoder

/-- If the block's arrays hold sample `i`'s points, its mask and the weights as the host lines stage them, the cells of
    sample `i` are what `kerOut` takes the maximum of. -/
theorem sample (x0 : FVec Ideal S6x65536 .bf16) (x1 : FVec Ideal S1x65536 .bf16) (x2 : FVec Ideal S128x8 .bf16)
    (x3 : FVec Ideal S256x128 .bf16) (x4 : FVec Ideal S256x256 .bf16) (x5 : FVec Ideal S256x256 .bf16)
    (x6 : FVec Ideal S256x1 .f32) (x7 : FVec Ideal S128x256 .bf16)
    (w : Weights) (xs : Fin 4096 → Fin 6 → EReal) (mk : Fin 4096 → Prop) [DecidablePred mk] (i : Fin 16)
    (h0 : ∀ r l, x0 (ix2 r (lane i l)) = xs l r) (h1 : ∀ l, x1 (ix2 0 (lane i l)) = bit mk l)
    (h2 : ∀ k, ∀ r : Fin 6, x2 (ix2 k ⟨r.val, by omega⟩) = w.W1 r k * s1 w k)
    (h2b : ∀ k, x2 (ix2 k 6) = w.b1 k * s1 w k + w.be1 k) (h2z : ∀ k, x2 (ix2 k 7) = 0)
    (h3 : ∀ o k, x3 (ix2 o k) = w.W2 k o) (h4 : ∀ o k, x4 (ix2 o k) = w.W3 (lo k) o * s2 w o)
    (h5 : ∀ o k, x5 (ix2 o k) = w.W3 (hi k) o * s2 w o)
    (h6 : ∀ o, x6 (ix2 o 0) = (w.b3 o * s2 w o + w.be2 o) + ∑ k, w.b2 k * (w.W3 (lo k) o * s2 w o))
    (h7 : ∀ e o, x7 (ix2 e o) = w.W4 o e) (e : Fin 128) :
    largest (cell x0 x1 x2 x3 x4 x5 x6 x7 e i) = kerOut w xs mk e := by
  have hf : ∀ k l, feat x0 x1 x2 x3 k (lane i l) = kerG w xs mk l k := fun k l => by
    simp only [feat, hid, kerG, kerH, h0, h1, h2, h2b, h2z, h3]
  have hs : ∀ o, shift x0 x1 x2 x3 x5 x6 o i = kerC w xs mk o := fun o => by
    simp only [shift, kerC, kerP, hf, h5, h6]
  unfold kerOut
  refine congrArg largest (funext fun l => ?_)
  simp only [cell, third, kerZ, hf, hs, h1, h4, h7]

end Cert.KernelIdeal.Block
-- ==== Proof.Staged.lean ====
/-
  What the host lines before the kernel hand to it: the points laid out a sample after the other along the lanes, the mask as
  zeros and ones, and the weights, transposed and multiplied by the normalisations' scales, each read at an entry.
-/
module

public import proofs.«01_k».proof.Proof.Gen.KernelIdeal.Frame
public import Idealize.ShloMosaic.Lib.Pointwise
public import Idealize.ShloMosaic.Lib.Claim
public import Idealize.ShloMosaic.Lib.Tactic.CleanTypes
public import Idealize.ShloMosaic.Lib.Pipeline.ValueKit

@[expose] public section

set_option maxRecDepth 16384

noncomputable section

namespace Cert.KernelIdeal.Staged

open Idealize.ShloMosaic Idealize.ShloMosaic.TcCoe Idealize.SL.Sem
open Cert.KernelIdeal Cert.KernelIdeal.Gen

variable (m : (ℓ : Loc nD τ sig) → Buf (Elt Ideal) ℓ) (c : Dev nD)

/-! The arguments' arrays. -/

abbrev a0 : FVec Ideal S32x4096x6 .f32 := m ((c : Thread nD τ).loc main_arg0)
abbrev a1 : IVec S32x4096 1 := m ((c : Thread nD τ).loc main_arg1)
abbrev a2 : FVec Ideal S6x128 .f32 := m ((c : Thread nD τ).loc main_arg2)
abbrev a3 : FVec Ideal S128 .f32 := m ((c : Thread nD τ).loc main_arg3)
abbrev a4 : FVec Ideal S128 .f32 := m ((c : Thread nD τ).loc main_arg4)
abbrev a5 : FVec Ideal S128 .f32 := m ((c : Thread nD τ).loc main_arg5)
abbrev a6 : FVec Ideal S128x256 .f32 := m ((c : Thread nD τ).loc main_arg6)
abbrev a7 : FVec Ideal S256 .f32 := m ((c : Thread nD τ).loc main_arg7)
abbrev a8 : FVec Ideal S512x256 .f32 := m ((c : Thread nD τ).loc main_arg8)
abbrev a9 : FVec Ideal S256 .f32 := m ((c : Thread nD τ).loc main_arg9)
abbrev a10 : FVec Ideal S256 .f32 := m ((c : Thread nD τ).loc main_arg10)
abbrev a11 : FVec Ideal S256 .f32 := m ((c : Thread nD τ).loc main_arg11)
abbrev a12 : FVec Ideal S256x128 .f32 := m ((c : Thread nD τ).loc main_arg12)
abbrev a13 : FVec Ideal S128 .f32 := m ((c : Thread nD τ).loc main_arg13)

/-- The points' array: coordinate `r` of point `l` of sample `b` in row `r` at lane `4096 b + l`. -/
theorem points (r : Fin 6) (b : Fin 32) (l : Fin 4096) :
    (V m c main_v39 : FVec Ideal S6x131072 .bf16) (ix2 r ⟨4096 * b.val + l.val, by omega⟩) = a0 m c (ix3 b l r) := by
  unfold V V0
  rw [show List.flatten [hostOps0] = (hostOps0 : List (HloOp τ sig (Elt Ideal))) from List.append_nil _]
  after_results
  clean_types
  pointwise []
  have hb := Nat.mul_add_div (m := 4096) (by omega) b.val l.val
  exact congrArg (a0 m c) (congrArg₂ (fun x y => ix3 x y r) (Fin.ext (by dsimp only; omega)) (Fin.ext (by dsimp only; omega)))

/-- The mask's array: one at the lanes of valid points, zero at the others. -/
theorem mask (b : Fin 32) (l : Fin 4096) :
    (V m c main_v41 : FVec Ideal S1x131072 .bf16) (ix2 0 ⟨4096 * b.val + l.val, by omega⟩) = if a1 m c (ix2 b l) = 1#1 then (1 : EReal) else 0 := by
  unfold V V0
  rw [show List.flatten [hostOps0] = (hostOps0 : List (HloOp τ sig (Elt Ideal))) from List.append_nil _]
  after_results
  clean_types
  pointwise []
  show FloatOps.uitofp FTy.bf16 (a1 m c (ix2 b l)) = _
  generalize a1 m c (ix2 b l) = x
  obtain rfl | rfl : x = 0#1 ∨ x = 1#1 := by revert x; decide
  · simp [FloatOps.uitofp]
  · simp [FloatOps.uitofp]

/-- The literal the scales divide by. -/
abbrev root : EReal := Ideal.sqrt (Ideal.ofBits .f32 0x3F800054#32)

/-- The first layer's array: the weights times their unit's scale, then the offset as a seventh column, then a column of zeros. -/
theorem first (k : Fin 128) :
    (∀ r : Fin 6, (V m c main_v13 : FVec Ideal S128x8 .bf16) (ix2 k ⟨r.val, by omega⟩) = a2 m c (ix2 r k) * Ideal.div (a4 m c (ix1 k)) root)
    ∧ (V m c main_v13 : FVec Ideal S128x8 .bf16) (ix2 k 6) = a3 m c (ix1 k) * Ideal.div (a4 m c (ix1 k)) root + a5 m c (ix1 k)
    ∧ (V m c main_v13 : FVec Ideal S128x8 .bf16) (ix2 k 7) = (0 : EReal) := by
  refine ⟨fun r => ?_, ?_, ?_⟩
  all_goals
    unfold V V0
    rw [show List.flatten [hostOps0] = (hostOps0 : List (HloOp τ sig (Elt Ideal))) from List.append_nil _]
    after_results
    clean_types
    pointwise []
    simp only [↓ StableHlo.readResult]
    pointwise []
    try rfl

/-- The other layers' arrays: the second layer's weights, the two halves of the third layer's weights times their unit's
    scale, what the biases add to the third layer, and the last layer's weights. -/
theorem rest (o k : Fin 256) (j e : Fin 128) :
    (V m c main_v34 : FVec Ideal S256x128 .bf16) (ix2 o j) = a6 m c (ix2 j o)
    ∧ (V m c main_v23 : FVec Ideal S256x256 .bf16) (ix2 o k) = a8 m c (ix2 ⟨k.val, by omega⟩ o) * Ideal.div (a10 m c (ix1 o)) root
    ∧ (V m c main_v26 : FVec Ideal S256x256 .bf16) (ix2 o k) = a8 m c (ix2 ⟨256 + k.val, by omega⟩ o) * Ideal.div (a10 m c (ix1 o)) root
    ∧ (V m c main_v32 : FVec Ideal S256x1 .f32) (ix2 o 0) = (a9 m c (ix1 o) * Ideal.div (a10 m c (ix1 o)) root + a11 m c (ix1 o))
        + ∑ h : Fin 256, a7 m c (ix1 h) * (a8 m c (ix2 ⟨h.val, by omega⟩ o) * Ideal.div (a10 m c (ix1 o)) root)
    ∧ (V m c main_v36 : FVec Ideal S128x256 .bf16) (ix2 e o) = a12 m c (ix2 o e) := by
  refine ⟨?_, ?_, ?_, ?_, ?_⟩
  all_goals
    unfold V V0
    rw [show List.flatten [hostOps0] = (hostOps0 : List (HloOp τ sig (Elt Ideal))) from List.append_nil _]
    after_results
    clean_types
    pointwise []
    try rfl

end Cert.KernelIdeal.Staged
-- ==== Proof.Array.lean ====
/-
  The array that the two blocks are written to: at `(t, e, i)` it holds `kerOut` of sample `16 t + i` at `e`, of the
  samples and weights that the arguments hold.
-/
module

public import proofs.«01_k».proof.Proof.Result
public import proofs.«01_k».proof.Proof.Sample
public import proofs.«01_k».proof.Proof.Staged

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Staged Cert.KernelIdeal.Block
open Cert.Encoder

variable (m : (ℓ : Loc nD τ sig) → Buf (Elt Ideal) ℓ) (c : Dev nD)

/-- The weights that the arguments hold. -/
def weights : Weights where
  W1 r k := a2 m c (ix2 r k)
  b1 k := a3 m c (ix1 k)
  g1 k := a4 m c (ix1 k)
  be1 k := a5 m c (ix1 k)
  W2 k o := a6 m c (ix2 k o)
  b2 o := a7 m c (ix1 o)
  W3 k o := a8 m c (ix2 k o)
  b3 o := a9 m c (ix1 o)
  g2 o := a10 m c (ix1 o)
  be2 o := a11 m c (ix1 o)
  W4 o e := a12 m c (ix2 o e)
  b4 e := a13 m c (ix1 e)
  c := root

/-- The points of sample `b`. -/
def pts (b : Fin 32) (l : Fin 4096) (r : Fin 6) : EReal := a0 m c (ix3 b l r)

/-- Which points of sample `b` are valid. -/
abbrev valid (b : Fin 32) (l : Fin 4096) : Prop := a1 m c (ix2 b l) = 1#1

/-- Sample `i` of block `t`. -/
abbrev row (t : Fin 2) (i : Fin 16) : Fin 32 := ⟨16 * t.val + i.val, by omega⟩

/-- Result `e` of sample `b`, computed the kernel's way. -/
def value (b : Fin 32) (e : Fin 128) : EReal := kerOut (weights m c) (pts m c b) (valid m c b) e

/-- The array that the blocks are written to: result `e` of sample `i` of block `t` at `(t, e, i)`. -/
def results : FVec Ideal S2x128x16 .f32 := fun j => value m c (row (j 0) (j 2)) (j 1)

/-- Which block each window shows at grid point `t`. -/
theorem idx : ∀ t : Fin cfg0.N, win0_0.index t = ![0, t.val] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] :=
  (by decide +kernel : ∀ t : Fin grid0.N, _)

/-- Block `t` of the points' array is a run of its columns. -/
theorem block0 (t : Fin cfg0.N) (r : Fin 6) (q : Fin 65536) :
    iblk m c 0 t (ix2 r q) = (V m c main_v39 : FVec Ideal S6x131072 .bf16) (ix2 r ⟨65536 * t.val + q.val, by
      have := t.isLt; have : cfg0.N = 2 := N_0; omega⟩) := by
  blk_ext [iblk, idx t]
/-- Block `t` of the mask's array is a run of its columns. -/
theorem block1 (t : Fin cfg0.N) (q : Fin 65536) :
    iblk m c 1 t (ix2 0 q) = (V m c main_v41 : FVec Ideal S1x131072 .bf16) (ix2 0 ⟨65536 * t.val + q.val, by
      have := t.isLt; have : cfg0.N = 2 := N_0; omega⟩) := by
  blk_ext [iblk, idx t]
set_option maxHeartbeats 2000000 in
/-- The other inputs are shown whole. -/
theorem whole (t : Fin cfg0.N) :
    iblk m c 2 t = (V m c main_v13 : FVec Ideal S128x8 .bf16)
    ∧ iblk m c 3 t = (V m c main_v34 : FVec Ideal S256x128 .bf16)
    ∧ iblk m c 4 t = (V m c main_v23 : FVec Ideal S256x256 .bf16)
    ∧ iblk m c 5 t = (V m c main_v26 : FVec Ideal S256x256 .bf16)
    ∧ iblk m c 6 t = (V m c main_v32 : FVec Ideal S256x1 .f32)
    ∧ iblk m c 7 t = (V m c main_v36 : FVec Ideal S128x256 .bf16) := by
  refine ⟨?_, ?_, ?_, ?_, ?_, ?_⟩
  all_goals
    funext j
    idx_vars j
    blk_ext [iblk, idx t]

/-- What the body leaves in its block at grid point `t`, at one of its places. -/
theorem point (t : Fin cfg0.N) (t' : Fin 2) (ht : t'.val = t.val) (e : Fin 128) (i : Fin 16) :
    out0_8 (F := Ideal) (iblk m c 0 t) (iblk m c 1 t) (iblk m c 2 t) (iblk m c 3 t) (iblk m c 4 t) (iblk m c 5 t)
      (iblk m c 6 t) (iblk m c 7 t) (ix3 0 e i) = value m c (row t' i) e := by
  obtain ⟨w2, w3, w4, w5, w6, w7⟩ := whole m c t
  rw [out_at, w2, w3, w4, w5, w6, w7]
  refine sample _ _ _ _ _ _ _ _ (weights m c) (pts m c (row t' i)) (valid m c (row t' i)) i ?_ ?_ ?_ ?_ ?_ ?_ ?_ ?_ ?_ ?_ e
  · intro r l
    rw [block0]
    refine Eq.trans (congrArg _ ?_) (points m c r (row t' i) l)
    exact congrArg (ix2 r) (Fin.ext (by dsimp only; omega))
  · intro l
    rw [block1]
    refine Eq.trans (congrArg _ ?_) (mask m c (row t' i) l)
    exact congrArg (ix2 0) (Fin.ext (by dsimp only; omega))
  · exact fun k => (first m c k).1
  · exact fun k => (first m c k).2.1
  · exact fun k => (first m c k).2.2
  · exact fun o k => (rest m c o 0 k 0).1
  · exact fun o k => (rest m c o k 0 0).2.1
  · exact fun o k => (rest m c o k 0 0).2.2.1
  · exact fun o => (rest m c o 0 0 0).2.2.2.1
  · exact fun e o => (rest m c o 0 0 e).2.2.2.2

/-- What the run leaves in the array of the blocks. -/
theorem arr_eq : (dats m 0 c).arrAt 8 cfg0.N = results m c := by
  refine (dats m 0 c).arrAt_eq_of_covers 8 (results m c) (by decide +kernel) fun t hf y => ?_
  blk_simp
  rw [after0_8]
  have hy : y = (ix3 0 (y 1) (y 2) : S1x128x16.Idx) := by
    idx_vars y
    rw [Subsingleton.elim y0 0]
  have he : (win0_8.blk t).view.emb y = (ix3 ⟨t.val, t.isLt⟩ (y 1) (y 2) : S2x128x16.Idx) := by
    blk_ext [idx t]
  rw [he, hy]
  exact point m c t ⟨t.val, t.isLt⟩ rfl (y 1) (y 2)

end Cert.KernelIdeal.Array
-- ==== Proof.Inputs.lean ====
/-
  What the precondition says of the arguments: every finiteness test that is one names a real number, every equality
  test that is one names a zero. Together with the literal under the root this gives the hypotheses of the equation
  between the two formulas, for every sample.
-/
module

public import proofs.«01_k».proof.Defs
public import proofs.«01_k».proof.Proof.Array

@[expose] public section

set_option maxRecDepth 16384

noncomputable section

namespace Cert.Pre_finite_and_zero_offsets

/-- The shape relations that the precondition states. -/
instance facts : Facts where
  bcast_S32x4096_S32x4096x1_0_1 := by decide
  bcast_S_S32x4096x6 := by decide
  bcast_S32x4096x1_S32x4096x6_0_1_2 := by decide
  bcast_S_S6x128 := by decide
  bcast_S_S128 := by decide
  bcast_S_S128x256 := by decide
  bcast_S_S256 := by decide
  bcast_S_S512x256 := by decide

end Cert.Pre_finite_and_zero_offsets

namespace Cert.KernelIdeal.Inputs

open Idealize.ShloMosaic Idealize.ShloMosaic.TcCoe Idealize.SL.Sem
open Cert.KernelIdeal Cert.KernelIdeal.Gen Cert.KernelIdeal.Staged
open Cert.Encoder

/-- A number whose absolute value compares below the infinity literal is real. -/
theorem real_of_test {x : EReal} (h : Ideal.cmp .olt (max x (-x)) (Ideal.ofBits .f32 0x7F800000#32) = 1#1) : IsReal x := by
  have top : Ideal.ofBits .f32 0x7F800000#32 = (⊤ : EReal) := by simp [Ideal.ofBits, Ideal.ieee]
  have hlt : max x (-x) < ⊤ := by
    by_contra hn
    rw [top] at h
    simp [Ideal.cmp, hn] at h
  refine IsReal.of_ne ?_ ?_
  · rintro rfl
    simp at hlt
  · rintro rfl
    simp at hlt

/-- A number that compares equal to the zero literal is zero. -/
theorem zero_of_test {x : EReal} (h : Ideal.cmp .oeq x (Ideal.ofBits .f32 0x00000000#32) = 1#1) : x = 0 := by
  have zero : Ideal.ofBits .f32 0x00000000#32 = (0 : EReal) := by simp [Ideal.ofBits, Ideal.ieee]
  by_contra hn
  rw [zero] at h
  simp [Ideal.cmp, hn] at h

/-- The literal that the scales divide by is a real number that is not zero. -/
theorem root_real : ∃ r : ℝ, r ≠ 0 ∧ root = r := by
  have val : Ideal.ofBits .f32 0x3F800054#32 = ((8388692 / 8388608 : ℝ) : EReal) := by
    simp [Ideal.ofBits, Ideal.ieee]
    rw [← EReal.coe_mul]
    norm_num
  refine ⟨Real.sqrt (8388692 / 8388608), (Real.sqrt_pos.2 (by norm_num)).ne', ?_⟩
  rw [root, val]
  exact if_neg (by norm_num)

/-- At a valid point the first test is the test of the point's coordinate. -/
theorem tested (x0 : FVec Ideal S32x4096x6 .f32) (x1 : IVec S32x4096 1) (x2 : FVec Ideal S6x128 .f32) (x3 x4 x5 : FVec Ideal S128 .f32)
    (x6 : FVec Ideal S128x256 .f32) (x7 : FVec Ideal S256 .f32) (x8 : FVec Ideal S512x256 .f32) (x9 x10 x11 : FVec Ideal S256 .f32)
    (x12 : FVec Ideal S256x128 .f32) (x13 : FVec Ideal S128 .f32) (b : Fin 32) (l : Fin 4096) (r : Fin 6) (hl : x1 (ix2 b l) = 1#1) :
    (Cert.Pre_finite_and_zero_offsets.fn x0 x1 x2 x3 x4 x5 x6 x7 x8 x9 x10 x11 x12 x13).1 (ix3 b l r)
      = Ideal.cmp .olt (max (x0 (ix3 b l r)) (-x0 (ix3 b l r))) (Ideal.ofBits .f32 0x7F800000#32) := by
  show Cert.Pre_finite_and_zero_offsets.fn_where (F := Ideal) _ _ _ (ix3 b l r) = _
  pointwise [Cert.Pre_finite_and_zero_offsets.fn_where]
  rw [hl]
  rfl

variable (m : (ℓ : Loc nD τ sig) → Buf (Elt Ideal) ℓ) (c : Dev nD)

/-- Under the precondition the arguments of every sample meet the hypotheses of the equation. -/
theorem good (h : Cert.Pre_KernelIdeal_finite_and_zero_offsets m) (b : Fin 32) :
    Good (Array.weights m c) (Array.pts m c b) (Array.valid m c b) := by
  obtain ⟨hx, hW1, hb1, hg1, hbe1, hW2, hb2, hW3, hg2, hb4⟩ := h c
  refine ⟨fun l hl r => ?_, fun r k => ?_, fun k => ?_, fun k => ?_, fun k => ?_, fun k o => ?_, fun o => ?_, fun k o => ?_, fun o => ?_, fun e => ?_, root_real⟩
  · exact real_of_test ((tested _ _ _ _ _ _ _ _ _ _ _ _ _ _ b l r hl).symm.trans (congrFun hx (ix3 b l r)))
  · exact real_of_test (congrFun hW1 (ix2 r k))
  · exact real_of_test (congrFun hb1 (ix1 k))
  · exact real_of_test (congrFun hg1 (ix1 k))
  · exact real_of_test (congrFun hbe1 (ix1 k))
  · exact real_of_test (congrFun hW2 (ix2 k o))
  · exact zero_of_test (congrFun hb2 (ix1 o))
  · exact real_of_test (congrFun hW3 (ix2 k o))
  · exact real_of_test (congrFun hg2 (ix1 o))
  · exact zero_of_test (congrFun hb4 (ix1 e))

end Cert.KernelIdeal.Inputs

end
-- ==== Proof.Output.lean ====
/-
  What the kernel's program returns: after the last block the array of results is transposed and laid out as one row per
  sample, so that entry `(b, e)` is the value of sample `b` at `e`.
-/
module

public import proofs.«01_k».proof.Proof.Array

@[expose] public section

set_option maxRecDepth 16384

noncomputable section

namespace Cert.KernelIdeal.Output

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The array returned: the value of every sample. -/
def returned : FVec Ideal S32x128 .f32 := fun j => Array.value m c (j 0) (j 1)

/-- The two operations after the last block leave the samples' values in the array returned. -/
theorem tail_eq : (Pipeline.afterTail₀ cfgs (dats m) 0 (V0 m) [hostOps1] c main_v44 : FVec Ideal S32x128 .f32) = returned m c := by
  unfold Pipeline.afterTail₀
  rw [show List.flatten [hostOps1] = (hostOps1 : List (HloOp τ sig (Elt Ideal))) from List.append_nil _]
  have read : Pipeline.withArrays (cfgs 0).spec c (V0 m c) (fun w => (dats m 0 c).arrAt w (cfgs 0).N) (Proc.devRef .tc main_v42)
      = Array.results m c :=
    (Pipeline.withArrays_arr spec0 (by decide) c (V0 m c) (fun w => (dats m 0 c).arrAt w (cfgs 0).N) 8).trans (Array.arr_eq m c)
  after_results
  rw [read]
  clean_types
  funext j
  obtain ⟨b, e, rfl⟩ : ∃ b e, j = ix2 b e := ⟨j 0, j 1, eq_ix2 j⟩
  pointwise []
  exact congrArg (fun i => Array.value m c i e) (Fin.ext (Nat.div_add_mod b.val 16))

/-- Every run of the kernel's program ends with the samples' values in the array returned. -/
theorem run : θ_run defs (onTc (τ := τ) (main (F := Ideal))) ⟨m, fun _ => 0, ρ⟩ (fun r => ∀ c : Dev nD,
    r.2.mem ((c.tc : Thread nD τ).loc main_v44) = returned m c) :=
  θ_run_mono (run_main m ρ) fun _ h c =>
    ((h c).2 main_v44 (Pipeline.mem_restRefs_of main_v44 (by decide) (by decide))).trans (tail_eq m c)

end Cert.KernelIdeal.Output

end
-- ==== Proof.Reference.lean ====
/-
  What the reference computes: entry `(b, e)` of its result is the formula `refOut` of sample `b` at `e`, of the samples and
  weights that the arguments hold.
-/
module

public import proofs.«01_k».proof.Proof.Gen.ReferenceIdeal.Run
public import proofs.«01_k».proof.Proof.Equation
public import Idealize.ShloMosaic.Lib.Pointwise
public import Idealize.ShloMosaic.Lib.Tactic.CleanTypes

@[expose] public section

set_option maxRecDepth 16384

noncomputable section

namespace Cert.ReferenceIdeal.Meaning

open Idealize.ShloMosaic Idealize.ShloMosaic.TcCoe Idealize.SL.Sem
open Cert.ReferenceIdeal Cert.ReferenceIdeal.Gen Cert.ReferenceIdeal.Value
open Cert.Encoder

variable (m : (ℓ : Loc nD τ sig) → Buf (Elt Ideal) ℓ) (c : Dev nD)

/-! The arguments' arrays. -/

abbrev a0 : FVec Ideal S32x4096x6 .f32 := m ((c : Thread nD τ).loc main_arg0)
abbrev a1 : IVec S32x4096 1 := m ((c : Thread nD τ).loc main_arg1)
abbrev a2 : FVec Ideal S6x128 .f32 := m ((c : Thread nD τ).loc main_arg2)
abbrev a3 : FVec Ideal S128 .f32 := m ((c : Thread nD τ).loc main_arg3)
abbrev a4 : FVec Ideal S128 .f32 := m ((c : Thread nD τ).loc main_arg4)
abbrev a5 : FVec Ideal S128 .f32 := m ((c : Thread nD τ).loc main_arg5)
abbrev a6 : FVec Ideal S128x256 .f32 := m ((c : Thread nD τ).loc main_arg6)
abbrev a7 : FVec Ideal S256 .f32 := m ((c : Thread nD τ).loc main_arg7)
abbrev a8 : FVec Ideal S512x256 .f32 := m ((c : Thread nD τ).loc main_arg8)
abbrev a9 : FVec Ideal S256 .f32 := m ((c : Thread nD τ).loc main_arg9)
abbrev a10 : FVec Ideal S256 .f32 := m ((c : Thread nD τ).loc main_arg10)
abbrev a11 : FVec Ideal S256 .f32 := m ((c : Thread nD τ).loc main_arg11)
abbrev a12 : FVec Ideal S256x128 .f32 := m ((c : Thread nD τ).loc main_arg12)
abbrev a13 : FVec Ideal S128 .f32 := m ((c : Thread nD τ).loc main_arg13)

/-- The weights that the arguments hold. -/
def weights : Weights where
  W1 r k := a2 m c (ix2 r k)
  b1 k := a3 m c (ix1 k)
  g1 k := a4 m c (ix1 k)
  be1 k := a5 m c (ix1 k)
  W2 k o := a6 m c (ix2 k o)
  b2 o := a7 m c (ix1 o)
  W3 k o := a8 m c (ix2 k o)
  b3 o := a9 m c (ix1 o)
  g2 o := a10 m c (ix1 o)
  be2 o := a11 m c (ix1 o)
  W4 o e := a12 m c (ix2 o e)
  b4 e := a13 m c (ix1 e)
  c := Ideal.sqrt (Ideal.ofBits .f32 0x3F800054#32)

/-- The points of sample `b`. -/
def pts (b : Fin 32) (l : Fin 4096) (r : Fin 6) : EReal := a0 m c (ix3 b l r)

/-- Which points of sample `b` are valid. -/
abbrev valid (b : Fin 32) (l : Fin 4096) : Prop := a1 m c (ix2 b l) = 1#1

/-- Result `e` of sample `b`, computed the reference's way. -/
theorem value (b : Fin 32) (e : Fin 128) :
    (res_main_v49 m c : FVec Ideal S32x128 .f32) (ix2 b e) = refOut (weights m c) (pts m c b) (valid m c b) e := by
  unfold res_main_v49
  clean_types
  pointwise [fn_main_v26]
  have hz : id (constant (F := Ideal) S_ .f32 0#32) ix0 = (0 : EReal) := by
    show Ideal.ofBits .f32 0#32 = 0
    simp [Ideal.ofBits, Ideal.ieee]
  have hr : id (Host.sqrt (constant (F := Ideal) S_ .f32 1065353300#32)) ix0 = Ideal.sqrt (Ideal.ofBits .f32 0x3F800054#32) := rfl
  have hb : Ideal.ofBits .f32 4286578688#32 = ⊥ := by simp [Ideal.ofBits, Ideal.ieee]
  simp only [hz, hr, hb, Scalar.select, refOut, refZ, refP, refG, refH, largest, sub_zero, weights, pts, valid, a0, a1, a2, a3, a4, a5,
    a6, a7, a8, a9, a10, a11, a12, a13, show (1 : BitVec 1) = 1#1 from rfl]

end Cert.ReferenceIdeal.Meaning
-- ==== Proof.lean ====
/- The proof of the certificate's claim: the runs of the three programs leave their arguments and semaphores as they
   should, and the kernel's array of results is the reference's, entry by entry, by the equation between the two formulas. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Inputs
public import proofs.«01_k».proof.Proof.Output
public import proofs.«01_k».proof.Proof.Reference
public import Idealize.ShloMosaic.Adequacy
public import Idealize.ShloMosaic.Init

@[expose] public section

set_option maxRecDepth 16384

noncomputable section

namespace Cert.Proof

open Idealize.ShloMosaic Idealize.SL.Sem

/-- The kernel of idealized numbers leaves its arguments as they were and every semaphore at zero. -/
theorem frame_kernel : Cert.quiescent_KernelIdeal := fun m ρ _ => Cert.KernelIdeal.Gen.frame m ρ

/-- The reference leaves its arguments as they were and every semaphore at zero. -/
theorem frame_reference : Cert.quiescent_ReferenceIdeal := fun m ρ _ =>
  θ_run_mono (Cert.ReferenceIdeal.Value.run m ρ) fun r h => ⟨fun c => (h c).2, sem_eq_zero_of_no_sems (by decide) r.2⟩

/-- The samples and the weights that the two programs are given. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  Cert.ReferenceIdeal.Meaning.weights m' c = Cert.KernelIdeal.Array.weights m c
    ∧ Cert.ReferenceIdeal.Meaning.pts m' c = Cert.KernelIdeal.Array.pts m c
    ∧ (fun b l => Cert.ReferenceIdeal.Meaning.a1 m' c (ix2 b l)) = fun b l => Cert.KernelIdeal.Staged.a1 m c (ix2 b l)

/-- The reference's formula depends on the marks alone, not on how they are decided. -/
theorem marked (w : Cert.Encoder.Weights) (xs : Fin 4096 → Fin 6 → EReal) {p q : Fin 4096 → Prop} [hp : DecidablePred p]
    [hq : DecidablePred q] (h : p = q) (e : Fin 128) : Cert.Encoder.refOut w xs p e = Cert.Encoder.refOut w xs q e := by
  subst h
  rw [Subsingleton.elim hp hq]

/-- Of the same arguments, of which the precondition holds, the reference computes what the kernel returns. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_finite_and_zero_offsets m) (same : Same m m' c) :
    (Cert.ReferenceIdeal.Value.res_main_v49 m' c : FVec Ideal Cert.ReferenceIdeal.S32x128 .f32)
      = Cert.KernelIdeal.Output.returned m c := by
  funext j
  obtain ⟨b, e, rfl⟩ : ∃ b e, j = ix2 b e := ⟨j 0, j 1, eq_ix2 j⟩
  refine (Cert.ReferenceIdeal.Meaning.value m' c b e).trans ?_
  obtain ⟨hw, hp, marks⟩ := same
  rw [hw, hp]
  refine (marked _ _ (funext fun l => congrArg (· = 1#1) (congrFun (congrFun marks b) l)) e).trans ?_
  exact ((Cert.KernelIdeal.Inputs.good m c hpre b).ker_eq_ref e).symm

/-- Under the precondition the kernel's results are the reference's. -/
theorem algebraic : Cert.algebraic_KernelIdeal_ReferenceIdeal_pre_finite_and_zero_offsets := by
  intro m g m' g' hpre hagree
  have same : ∀ c, Same m m' c := fun c => by
    obtain ⟨h0, h1, h2, h3, h4, h5, h6, h7, h8, h9, h10, h11, h12, h13⟩ := hagree c
    simp only [Same, Cert.ReferenceIdeal.Meaning.weights, Cert.ReferenceIdeal.Meaning.pts]
    refine ⟨?_, ?_, ?_⟩
    · simp only [Cert.ReferenceIdeal.Meaning.a2, Cert.ReferenceIdeal.Meaning.a3, Cert.ReferenceIdeal.Meaning.a4,
        Cert.ReferenceIdeal.Meaning.a5, Cert.ReferenceIdeal.Meaning.a6, Cert.ReferenceIdeal.Meaning.a7,
        Cert.ReferenceIdeal.Meaning.a8, Cert.ReferenceIdeal.Meaning.a9, Cert.ReferenceIdeal.Meaning.a10,
        Cert.ReferenceIdeal.Meaning.a11, Cert.ReferenceIdeal.Meaning.a12, Cert.ReferenceIdeal.Meaning.a13,
        h2, h3, h4, h5, h6, h7, h8, h9, h10, h11, h12, h13]
      rfl
    · funext b l r
      exact congrFun h0 (ix3 b l r)
    · funext b l
      exact congrFun h1 (ix2 b l)
  refine ⟨fun c => Cert.KernelIdeal.Output.returned m c, ?_, ?_⟩
  · exact θ_run_mono (θ_run_and (Cert.KernelIdeal.Output.run m g) (Cert.KernelIdeal.Gen.unchanged m g))
      fun _ h c => ⟨h.1 c, h.2 c⟩
  · exact θ_run_mono (Cert.ReferenceIdeal.Value.run m' g')
      fun _ h c => ⟨(h c).1.trans (equal m m' c hpre (same c)), (h c).2⟩

/-- The certificate's claim. -/
theorem claim : Cert.Claim :=
  ⟨Cert.Kernel.Gen.facts, Cert.KernelIdeal.Gen.facts, Cert.ReferenceIdeal.Gen.facts, Cert.Pre_finite_and_zero_offsets.facts,
    fun m ρ _ => Cert.Kernel.Gen.frame m ρ, frame_kernel, fun m ρ _ => frame_kernel m ρ trivial,
    frame_reference, fun m ρ _ => frame_reference m ρ trivial, trivial, algebraic⟩

end Cert.Proof

end
